-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x16384 : Shape := ⟨3, ![256, 1, 16384]⟩
abbrev S2x8192x16384 : Shape := ⟨3, ![2, 8192, 16384]⟩
abbrev S2x8192 : Shape := ⟨2, ![2, 8192]⟩
abbrev S256x16384 : Shape := ⟨2, ![256, 16384]⟩
abbrev S256x8192 : Shape := ⟨2, ![256, 8192]⟩
abbrev S2x256x16384 : Shape := ⟨3, ![2, 256, 16384]⟩
abbrev S2x256 : Shape := ⟨2, ![2, 256]⟩
abbrev S256x256 : Shape := ⟨2, ![256, 256]⟩
abbrev S512x16384 : Shape := ⟨2, ![512, 16384]⟩
abbrev S512x256 : Shape := ⟨2, ![512, 256]⟩
abbrev S1x256 : Shape := ⟨2, ![1, 256]⟩
abbrev S256x1x8192 : Shape := ⟨3, ![256, 1, 8192]⟩

abbrev nBuf : Space → Nat
  | .hbm => 6
  | .vmem => 7
  | .smem => 0
  | _ => 0

abbrev bufTy : (tb : Table) → Fin (tcTables nBuf tb) → BufTy
  | .hbm, ⟨0, _⟩ => ⟨S256x1x16384, .bf16⟩
  | .hbm, ⟨1, _⟩ => ⟨S2x8192x16384, .i8⟩
  | .hbm, ⟨2, _⟩ => ⟨S2x8192, .f32⟩
  | .hbm, ⟨3, _⟩ => ⟨S256x16384, .bf16⟩
  | .hbm, ⟨4, _⟩ => ⟨S256x8192, .bf16⟩
  | .hbm, ⟨5, _⟩ => ⟨S256x1x8192, .bf16⟩
  | .local _ .vmem, ⟨0, _⟩ => ⟨S256x16384, .bf16⟩
  | .local _ .vmem, ⟨1, _⟩ => ⟨S2x256x16384, .i8⟩
  | .local _ .vmem, ⟨2, _⟩ => ⟨S2x256x16384, .i8⟩
  | .local _ .vmem, ⟨3, _⟩ => ⟨S2x256, .f32⟩
  | .local _ .vmem, ⟨4, _⟩ => ⟨S2x256, .f32⟩
  | .local _ .vmem, ⟨5, _⟩ => ⟨S256x256, .bf16⟩
  | .local _ .vmem, ⟨6, _⟩ => ⟨S256x256, .bf16⟩
  | _, _ => ⟨S256x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x256x16384 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S256x1x16384 : Shape := ⟨3, ![256, 1, 16384]⟩
abbrev S2x8192x16384 : Shape := ⟨3, ![2, 8192, 16384]⟩
abbrev S2x8192 : Shape := ⟨2, ![2, 8192]⟩
abbrev S1x8192x16384 : Shape := ⟨3, ![1, 8192, 16384]⟩
abbrev S8192x16384 : Shape := ⟨2, ![8192, 16384]⟩
abbrev S1x8192 : Shape := ⟨2, ![1, 8192]⟩
abbrev S8192 : Shape := ⟨1, ![8192]⟩
abbrev S256x1x8192 : Shape := ⟨3, ![256, 1, 8192]⟩
abbrev S1x1x8192 : Shape := ⟨3, ![1, 1, 8192]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S256x1x16384, .bf16⟩
  | .hbm, ⟨1, _⟩ => ⟨S2x8192x16384, .i8⟩
  | .hbm, ⟨2, _⟩ => ⟨S2x8192, .f32⟩
  | .hbm, ⟨3, _⟩ => ⟨S1x8192x16384, .i8⟩
  | .hbm, ⟨4, _⟩ => ⟨S8192x16384, .i8⟩
  | .hbm, ⟨5, _⟩ => ⟨S1x8192, .f32⟩
  | .hbm, ⟨6, _⟩ => ⟨S8192, .f32⟩
  | .hbm, ⟨7, _⟩ => ⟨S8192x16384, .i32⟩
  | .hbm, ⟨8, _⟩ => ⟨S8192x16384, .bf16⟩
  | .hbm, ⟨9, _⟩ => ⟨S256x1x8192, .f32⟩
  | .hbm, ⟨10, _⟩ => ⟨S1x1x8192, .f32⟩
  | .hbm, ⟨11, _⟩ => ⟨S256x1x8192, .f32⟩
  | .hbm, ⟨12, _⟩ => ⟨S256x1x8192, .f32⟩
  | .hbm, ⟨13, _⟩ => ⟨S1x8192x16384, .i8⟩
  | .hbm, ⟨14, _⟩ => ⟨S8192x16384, .i8⟩
  | .hbm, ⟨15, _⟩ => ⟨S1x8192, .f32⟩
  | .hbm, ⟨16, _⟩ => ⟨S8192, .f32⟩
  | .hbm, ⟨17, _⟩ => ⟨S8192x16384, .i32⟩
  | .hbm, ⟨18, _⟩ => ⟨S8192x16384, .bf16⟩
  | .hbm, ⟨19, _⟩ => ⟨S256x1x8192, .f32⟩
  | .hbm, ⟨20, _⟩ => ⟨S1x1x8192, .f32⟩
  | .hbm, ⟨21, _⟩ => ⟨S256x1x8192, .f32⟩
  | .hbm, ⟨22, _⟩ => ⟨S256x1x8192, .f32⟩
  | .hbm, ⟨23, _⟩ => ⟨S256x1x8192, .f32⟩
  | .hbm, ⟨24, _⟩ => ⟨S256x1x8192, .f32⟩
  | .hbm, ⟨25, _⟩ => ⟨S_, .f32⟩
  | .hbm, ⟨26, _⟩ => ⟨S256x1x8192, .f32⟩
  | .hbm, ⟨27, _⟩ => ⟨S256x1x8192, .f32⟩
  | .hbm, ⟨28, _⟩ => ⟨S_, .f32⟩
  | .hbm, ⟨29, _⟩ => ⟨S256x1x8192, .f32⟩
  | .hbm, ⟨30, _⟩ => ⟨S256x1x8192, .f32⟩
  | .hbm, ⟨31, _⟩ => ⟨S256x1x8192, .f32⟩
  | .hbm, ⟨32, _⟩ => ⟨S256x1x8192, .f32⟩
  | .hbm, ⟨33, _⟩ => ⟨S256x1x8192, .bf16⟩
  | _, _ => ⟨S256x1x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Proof.Spec.lean ====
/-
  The function that the kernel and the reference both compute, element by element over the extended reals:
  two linear layers with int8 weights, each output scaled by its own factor, then `silu(gate) · up`.
-/
module

public import Idealize.ShloMosaic.Lib.Pointwise

@[expose] public section

set_option maxRecDepth 16384

noncomputable section

namespace Cert.Spec

open Idealize.ShloMosaic

/-- The activations' shape: 256 rows, one position each, 16384 features. -/
abbrev SX : Shape := ⟨3, ![256, 1, 16384]⟩
/-- The codes' shape: two weight matrices of 8192 rows of 16384 codes. -/
abbrev SW : Shape := ⟨3, ![2, 8192, 16384]⟩
/-- The scales' shape: one scale per weight row. -/
abbrev SS : Shape := ⟨2, ![2, 8192]⟩
/-- The result's shape. -/
abbrev SY : Shape := ⟨3, ![256, 1, 8192]⟩

/-- Output `o` of linear layer `p` for row `b`: the inner product of the row with the integers that the codes stand for, times
    the output's scale. -/
def lin (X : FVec Ideal SX .bf16) (W : IVec SW 8) (S : FVec Ideal SS .f32) (p : Fin 2) (b : Fin 256) (o : Fin 8192) : EReal :=
  (∑ k : Fin 16384, X (ix3 b 0 k) * (((W (ix3 p o k)).toInt : ℝ) : EReal)) * S (ix2 p o)

/-- The gate: `g · (1 / (1 + e⁻ᵍ)) · u`. -/
def gate (g u : EReal) : EReal := g * Ideal.logistic g * u

/-- The whole result: layer 0 gates layer 1. -/
def gated (X : FVec Ideal SX .bf16) (W : IVec SW 8) (S : FVec Ideal SS .f32) : FVec Ideal SY .bf16 :=
  fun j => gate (lin X W S 0 (j 0) (j 2)) (lin X W S 1 (j 0) (j 2))

end Cert.Spec

end
-- ==== Proof.RefValue.lean ====
/-
  What the reference computes: its operations' composed term, read at an index, is the gated pair of linear layers of
  `Proof/Spec.lean`.
-/
module

public import proofs.«01_k».proof.Proof.Spec
public import proofs.«01_k».proof.Proof.Gen.ReferenceIdeal.Run

@[expose] public section

set_option maxRecDepth 16384

noncomputable section

namespace Cert.ReferenceIdeal.RefValue

open Cert.ReferenceIdeal Cert.ReferenceIdeal.Gen Idealize.ShloMosaic Idealize.ShloMosaic.TcCoe Idealize.SL.Sem

/-- The reference's composed term over its three arguments. -/
def ref (X : FVec Ideal S256x1x16384 .bf16) (W : IVec S2x8192x16384 8) (S : FVec Ideal S2x8192 .f32) : FVec Ideal S256x1x8192 .bf16 :=
  truncf .bf16 (mulf (mulf (mulf (Host.dotGeneral (φ₁ := .bf16) (φ₂ := .bf16) dot_S256x1x16384_S8192x16384_S256x1x8192_2_1_01_0_n_n none X (sitofp .bf16 (extsi 32 (shapeCast S8192x16384 (extractStridedSlice S1x8192x16384 ![0, 0, 0] W slices_S2x8192x16384_S1x8192x16384_0_0_0) shapeCasts_S1x8192x16384_S8192x16384) natLt_8_32))) (broadcastInDim S256x1x8192 ![0, 1, 2] bcast_S1x1x8192_S256x1x8192_0_1_2 (broadcastInDim S1x1x8192 ![2] bcast_S8192_S1x1x8192_2 (shapeCast S8192 (extractStridedSlice S1x8192 ![0, 0] S slices_S2x8192_S1x8192_0_0) shapeCasts_S1x8192_S8192)))) (Host.divf (broadcastInDim S256x1x8192 ![] bcast_S_S256x1x8192 (constant S_ .f32 0x3F800000#32)) (addf (broadcastInDim S256x1x8192 ![] bcast_S_S256x1x8192 (constant S_ .f32 0x3F800000#32)) (Host.exp (Host.negf (mulf (Host.dotGeneral (φ₁ := .bf16) (φ₂ := .bf16) dot_S256x1x16384_S8192x16384_S256x1x8192_2_1_01_0_n_n none X (sitofp .bf16 (extsi 32 (shapeCast S8192x16384 (extractStridedSlice S1x8192x16384 ![0, 0, 0] W slices_S2x8192x16384_S1x8192x16384_0_0_0) shapeCasts_S1x8192x16384_S8192x16384) natLt_8_32))) (broadcastInDim S256x1x8192 ![0, 1, 2] bcast_S1x1x8192_S256x1x8192_0_1_2 (broadcastInDim S1x1x8192 ![2] bcast_S8192_S1x1x8192_2 (shapeCast S8192 (extractStridedSlice S1x8192 ![0, 0] S slices_S2x8192_S1x8192_0_0) shapeCasts_S1x8192_S8192))))))))) (mulf (Host.dotGeneral (φ₁ := .bf16) (φ₂ := .bf16) dot_S256x1x16384_S8192x16384_S256x1x8192_2_1_01_0_n_n none X (sitofp .bf16 (extsi 32 (shapeCast S8192x16384 (extractStridedSlice S1x8192x16384 ![1, 0, 0] W slices_S2x8192x16384_S1x8192x16384_1_0_0) shapeCasts_S1x8192x16384_S8192x16384) natLt_8_32))) (broadcastInDim S256x1x8192 ![0, 1, 2] bcast_S1x1x8192_S256x1x8192_0_1_2 (broadcastInDim S1x1x8192 ![2] bcast_S8192_S1x1x8192_2 (shapeCast S8192 (extractStridedSlice S1x8192 ![1, 0] S slices_S2x8192_S1x8192_1_0) shapeCasts_S1x8192_S8192))))) bitsLt_bf16_f32

/-- A code widened to 32 bits and read as a number is the code read as a number. -/
theorem code_real (w : BitVec 8) :
    FloatOps.sitofp (F := Ideal) .bf16 (BitVec.signExtend 32 w) = (((w.toInt : ℝ)) : EReal) := by
  show ((((BitVec.signExtend 32 w).toInt : ℝ)) : EReal) = _
  rw [BitVec.toInt_signExtend_of_le (by decide)]

/-- The reference's term is the gated pair of linear layers. -/
theorem ref_eq (X : FVec Ideal S256x1x16384 .bf16) (W : IVec S2x8192x16384 8) (S : FVec Ideal S2x8192 .f32) :
    ref X W S = Spec.gated X W S := by
  funext j
  idx_vars j
  obtain rfl : j1 = 0 := Subsingleton.elim _ _
  pointwise [ref, Spec.gated, Spec.gate, Spec.lin, code_real, Ideal.logistic]

end Cert.ReferenceIdeal.RefValue

end
-- ==== Proof.Block.lean ====
/-
  What one grid step of the kernel computes, and what the kernel's result array holds: the product of the 512 stacked codes'
  rows with the activations, its two halves transposed and scaled, is a tile of the gated pair of linear layers of
  `Proof/Spec.lean`; the 32 tiles fill the result.
-/
module

public import proofs.«01_k».proof.Proof.Spec
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)

/-- A code read as a number. -/
theorem code_real (w : BitVec 8) : FloatOps.sitofp (F := Ideal) .bf16 w = (((w.toInt : ℝ)) : EReal) := rfl

/-- One grid step's payload at row `b` and column `o` of the tile, from the blocks that it loads. -/
theorem pay_apply (w : IVec S2x256x16384 8) (x : FVec Ideal S256x16384 .bf16) (s₀ s₁ : FVec Ideal S1x256 .f32)
    (b o : Fin 256) :
    k0_pay1 (F := Ideal) w x s₀ s₁ (ix2 b o)
      = Spec.gate ((∑ k : Fin 16384, x (ix2 b k) * (((w (ix3 0 o k)).toInt : ℝ) : EReal)) * s₀ (ix2 0 o))
          ((∑ k : Fin 16384, x (ix2 b k) * (((w (ix3 1 o k)).toInt : ℝ) : EReal)) * s₁ (ix2 0 o)) := by
  pointwise [k0_pay1, Spec.gate, code_real]
  have h₀ : ∀ h, (⟨o.val / 256, h⟩ : Fin 2) = 0 := fun _ => Fin.ext (show o.val / 256 = 0 by omega)
  have h₁ : ∀ h, (⟨(256 + o.val) / 256, h⟩ : Fin 2) = 1 := fun _ => Fin.ext (show (256 + o.val) / 256 = 1 by omega)
  have hr : ∀ h, (⟨o.val % 256, h⟩ : Fin 256) = o := fun _ => Fin.ext (show o.val % 256 = o.val by omega)
  simp only [h₀, h₁, hr, mul_comm (x _)]

variable (m : (ℓ : Loc nD τ sig) → Buf (Elt Ideal) ℓ) (ρ : Dev nD → PrngReg)

/-- The result array of the pallas_call: the gated layers without the length-one axis. -/
def flat (c : Dev nD) : FVec Ideal S256x8192 .bf16 :=
  fun j => Spec.gated (m ((c : Thread nD τ).loc main_arg0)) (m ((c : Thread nD τ).loc main_arg1))
    (m ((c : Thread nD τ).loc main_arg2)) (ix3 (j 0) 0 (j 1))

/-- The windows' block indices at point `t`. -/
theorem idx : ∀ t : Fin cfg0.N, win0_0.index t = ![0, 0] ∧ win0_1.index t = ![0, t.val, 0] ∧ win0_2.index t = ![0, t.val]
    ∧ win0_3.index t = ![0, t.val] :=
  (by decide +kernel : ∀ t : Fin grid0.N, _)

/-- Dropping the activations' length-one axis moves no entry. -/
theorem squeeze_apply (X : FVec Ideal S256x1x16384 .bf16) (b : Fin 256) (k : Fin 16384) :
    shapeCast S256x16384 X shapeCasts_S256x1x16384_S256x16384 (ix2 b k) = X (ix3 b 0 k) := by
  pointwise

/-- When the pallas_call starts, the array of its first window is the activations without the length-one axis. -/
theorem entry_apply (c : Dev nD) (b : Fin 256) (k : Fin 16384) :
    V m c main_v0 (ix2 b k) = m ((c : Thread nD τ).loc main_arg0) (ix3 b 0 k) := by
  have h : V m c main_v0
      = shapeCast S256x16384 (m ((c : Thread nD τ).loc main_arg0)) shapeCasts_S256x1x16384_S256x16384 := by
    simp only [V, V0, hostOps0, List.flatten_cons, List.flatten_nil, List.append_nil, StableHlo.after_cons, StableHlo.after_nil]
    exact StableHlo.reshape_result main_arg0 main_v0 rfl _ _ _ _
  exact (congrFun h (ix2 b k)).trans (squeeze_apply _ b k)

/-- What point `t` leaves at index `y` of the result's staging buffer is the result at the place of `y` in the array. -/
theorem point (c : Dev nD) (t : Fin cfg0.N) (y : S256x256.Idx) :
    out0_3 (iblk m c 0 t) (iblk m c 1 t) (iblk m c 2 t) y = flat m c (((cfg0.win 3).blk t).view.emb y) := by
  idx_vars y
  frame_out
  rw [pay_apply]
  pointwise [flat, Spec.gated, Spec.gate, Spec.lin]
  blk_point [iblk, V, idx t]
  refine Eq.trans (congrArg (V m c main_v0) (?_ : _ = ix2 y0 k)) ((entry_apply m c y0 k).trans ?_) <;>
    blk_ext [idx t]

/-- After the last point the pallas_call's result array holds the gated layers. -/
theorem final (c : Dev nD) : (dats m 0 c).arrAt 3 (cfgs 0).N = flat m c := by
  refine (dats m 0 c).arrAt_eq_of_covers 3 _ (by decide +kernel) fun t _ y => ?_
  blk_simp
  rw [after0_3]
  exact point m c t y

/-- The gated layers are what the reshape after the pallas_call makes of its result array. -/
theorem unflat (c : Dev nD) :
    shapeCast S256x1x8192 (flat m c) shapeCasts_S256x8192_S256x1x8192
      = Spec.gated (m ((c : Thread nD τ).loc main_arg0)) (m ((c : Thread nD τ).loc main_arg1))
          (m ((c : Thread nD τ).loc main_arg2)) := by
  funext j
  idx_vars j
  obtain rfl : j1 = 0 := Subsingleton.elim _ _
  pointwise [flat]

/-- The program's result, after the host's reshape: the gated layers. -/
theorem result (c : Dev nD) :
    Pipeline.afterTail₀ cfgs (dats m) 0 (V0 m) [hostOps1] c main_v2
      = Spec.gated (m ((c : Thread nD τ).loc main_arg0)) (m ((c : Thread nD τ).loc main_arg1))
          (m ((c : Thread nD τ).loc main_arg2)) := by
  rw [← unflat m c, ← final m c]
  unfold Pipeline.afterTail₀
  simp only [hostOps1, List.flatten_cons, List.flatten_nil, List.append_nil, StableHlo.after_cons, StableHlo.after_nil]
  refine (StableHlo.reshape_result main_v1 main_v2 rfl _ _ _ _).trans ?_
  exact congrArg (fun z : FVec Ideal S256x8192 .bf16 => shapeCast S256x1x8192 z shapeCasts_S256x8192_S256x1x8192)
    (Pipeline.withArrays_arr (cfgs 0).spec winFacts0.arr_inj c (V0 m c) (fun w => (dats m 0 c).arrAt w (cfgs 0).N) 3)

/-- The kernel's run: its result holds the gated layers over the arguments. -/
theorem run : θ_run (defs (F := Ideal)) (onTc (τ := τ) (main (F := Ideal))) ⟨m, fun _ => 0, ρ⟩ (fun r => ∀ c : Dev nD,
    r.2.mem ((c : Thread nD τ).loc main_v2)
      = Spec.gated (m ((c : Thread nD τ).loc main_arg0)) (m ((c : Thread nD τ).loc main_arg1))
          (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  run_from run_main m ρ
  · exact result m c
  · exact W_main_arg0 m (dats m) c

end Cert.KernelIdeal.KValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import proofs.«01_k».proof.Proof.Block
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The idealized kernel and the idealized reference end with the same result, the gated pair of linear layers, at every
    input. -/
theorem algebraic : Cert.algebraic_KernelIdeal_ReferenceIdeal := by
  intro m g m' g' _ hagree
  refine ⟨fun c => Cert.Spec.gated (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)),
    Cert.KernelIdeal.KValue.run m g, ?_⟩
  refine (θ_run Cert.ReferenceIdeal.defs _ _).mono (fun r h c => ⟨(h c).1.trans ?_, (h c).2⟩)
    (Cert.ReferenceIdeal.Value.run (F := Ideal) m' g')
  obtain ⟨e₀, e₁, e₂⟩ := hagree c
  rw [e₀, e₁, e₂]
  exact Cert.ReferenceIdeal.RefValue.ref_eq _ _ _

/-- The reference terminates with its arguments unchanged and every counter at zero. -/
theorem quiescent_ref : Cert.quiescent_ReferenceIdeal :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ref, trivial, algebraic⟩

end Cert.Proof

end
